-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v16_0)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v16_0) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S16x1024x256 : Shape := ⟨3, ![16, 1024, 256]⟩
abbrev S1024x256 : Shape := ⟨2, ![1024, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩

class Facts : Prop where
  shapeCasts_S16x1024x256_S16384x256 : S16x1024x256.ShapeCasts S16384x256
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  bcast_S_S16384x1024 : S_.BroadcastsInDim S16384x1024 (![] : Fin 0 → Fin S16384x1024.rank)
  reducesTo_S16384x1024_S16384_d1 : S16384x1024.ReducesTo [1] S16384
  bcast_S_S16x1024x256 : S_.BroadcastsInDim S16x1024x256 (![] : Fin 0 → Fin S16x1024x256.rank)
  bcast_S_S1024x256 : S_.BroadcastsInDim S1024x256 (![] : Fin 0 → Fin S1024x256.rank)
  dot_S16384x256_S256x1024_S16384x1024_1_0_0_1_n_n_wf : DotDims.WF S16384x256 S256x1024 S16384x1024 [1] [0] [0] [1] [] []

variable [Facts]

variable {F : FTy → Type} [FloatOps F]
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S16384x1024 .f32) : IVec S16384 32 :=
  let v0 : IVec S16384x1024 32 := iotaInDim S16384x1024 32 1
  let cst : FVec F S_ .f32 := constant S_ .f32 0x7F800000#32
  let c : IVec S_ 32 := constantI S_ 32 0#32
  let v1_0 : FVec F S16384 .f32 := (fun x y u v j => (Host.argReduce reducer_argmin_f32_i32 x y u v reducesTo_S16384x1024_S16384_d1 h_S_ j).1) arg0 v0 cst c
  let v1_1 : IVec S16384 32 := (fun x y u v j => (Host.argReduce reducer_argmin_f32_i32 x y u v reducesTo_S16384x1024_S16384_d1 h_S_ j).2) arg0 v0 cst c
  v1_1

def fn_part1 {F : FTy → Type} [FloatOps F] (main_arg0 : FVec F S16x1024x256 .f32) (main_arg1 : FVec F S1024x256 .f32) (main_v14 : FVec F S16384x1024 .f32) (main_v16 : IVec S16384x1 32) (main_v17 : IVec S16384x1024 32) (main_v19 : FVec F S16384x1 .f32) : IVec S16x1024x256 1 × IVec S1024x256 1 × IVec S16384x1024 1 :=
  let main_v20 : FVec F S16x1024x256 .f32 := Host.absf main_arg0
  let main_cst_3 : FVec F S_ .f32 := constant S_ .f32 0x7F800000#32
  let main_v21 : FVec F S16x1024x256 .f32 := broadcastInDim S16x1024x256 ![] bcast_S_S16x1024x256 main_cst_3
  let main_v22 : IVec S16x1024x256 1 := cmpf .olt main_v20 main_v21
  let main_v23 : FVec F S1024x256 .f32 := Host.absf main_arg1
  let main_cst_4 : FVec F S_ .f32 := constant S_ .f32 0x7F800000#32
  let main_v24 : FVec F S1024x256 .f32 := broadcastInDim S1024x256 ![] bcast_S_S1024x256 main_cst_4
  let main_v25 : IVec S1024x256 1 := cmpf .olt main_v23 main_v24
  let main_v26 : IVec S16384x1024 32 := broadcastInDim S16384x1024 ![0, 1] bcast_S16384x1_S16384x1024_0_1 main_v16
  let main_v27 : IVec S16384x1024 1 := cmpi .eq main_v17 main_v26
  let main_v28 : FVec F S16384x1024 .f32 := broadcastInDim S16384x1024 ![0, 1] bcast_S16384x1_S16384x1024_0_1 main_v19
  let main_v29 : IVec S16384x1024 1 := cmpf .ogt main_v14 main_v28
  let main_v30 : IVec S16384x1024 1 := ori main_v27 main_v29
  (main_v22, main_v25, main_v30)

def fn {F : FTy → Type} [FloatOps F] (main_arg0 : FVec F S16x1024x256 .f32) (main_arg1 : FVec F S1024x256 .f32) : IVec S16x1024x256 1 × IVec S1024x256 1 × IVec S16384x1024 1 :=
  let main_v0 : FVec F S16384x256 .f32 := shapeCast S16384x256 main_arg0 shapeCasts_S16x1024x256_S16384x256
  let main_v1 : FVec F S16384x256 .f32 := mulf main_v0 main_v0
  let main_cst : FVec F S_ .f32 := constant S_ .f32 0x00000000#32
  let main_v2 : FVec F S16384 .f32 := (fun x v => Host.reduceAdd x v reducesTo_S16384x256_S16384_d1 h_S_) main_v1 main_cst
  let main_v3 : FVec F S16384x1 .f32 := broadcastInDim S16384x1 ![0] bcast_S16384_S16384x1_0 main_v2
  let main_v4 : FVec F S1024x256 .f32 := mulf main_arg1 main_arg1
  let main_cst_0 : FVec F S_ .f32 := constant S_ .f32 0x00000000#32
  let main_v5 : FVec F S1024 .f32 := (fun x v => Host.reduceAdd x v reducesTo_S1024x256_S1024_d1 h_S_) main_v4 main_cst_0
  let main_v6 : FVec F S1x1024 .f32 := broadcastInDim S1x1024 ![1] bcast_S1024_S1x1024_1 main_v5
  let main_v7 : FVec F S16384x1024 .f32 := broadcastInDim S16384x1024 ![0, 1] bcast_S16384x1_S16384x1024_0_1 main_v3
  let main_v8 : FVec F S16384x1024 .f32 := broadcastInDim S16384x1024 ![0, 1] bcast_S1x1024_S16384x1024_0_1 main_v6
  let main_v9 : FVec F S16384x1024 .f32 := addf main_v7 main_v8
  let main_v10 : FVec F S256x1024 .f32 := (transpose S256x1024 [1, 0] · transposes_S1024x256_S256x1024_1_0) main_arg1
  let main_v11 : FVec F S16384x1024 .f32 := (fun l r => Host.dotGeneral dot_S16384x256_S256x1024_S16384x1024_1_0_0_1_n_n none l r) main_v0 main_v10
  let main_cst_1 : FVec F S_ .f32 := constant S_ .f32 0x40000000#32
  let main_v12 : FVec F S16384x1024 .f32 := broadcastInDim S16384x1024 ![] bcast_S_S16384x1024 main_cst_1
  let main_v13 : FVec F S16384x1024 .f32 := mulf main_v12 main_v11
  let main_v14 : FVec F S16384x1024 .f32 := subf main_v9 main_v13
  let main_v15 : IVec S16384 32 := fn_argmin (F := F) main_v14
  let main_v16 : IVec S16384x1 32 := broadcastInDim S16384x1 ![0] bcast_S16384_S16384x1_0 main_v15
  let main_v17 : IVec S16384x1024 32 := iotaInDim S16384x1024 32 1
  let main_cst_2 : FVec F S_ .f32 := constant S_ .f32 0x7F800000#32
  let main_v18 : FVec F S16384 .f32 := (fun x v => Host.reduce FloatOps.minimumf x v reducesTo_S16384x1024_S16384_d1 h_S_) main_v14 main_cst_2
  let main_v19 : FVec F S16384x1 .f32 := broadcastInDim S16384x1 ![0] bcast_S16384_S16384x1_0 main_v18
  fn_part1 (F := F) main_arg0 main_arg1 main_v14 main_v16 main_v17 main_v19
-- ==== Kernel.lean ====
abbrev S16x1024x256 : Shape := ⟨3, ![16, 1024, 256]⟩
abbrev S1024x256 : Shape := ⟨2, ![1024, 256]⟩
abbrev S16384x256 : Shape := ⟨2, ![16384, 256]⟩
abbrev S256x1024 : Shape := ⟨2, ![256, 1024]⟩
abbrev S_ : Shape := ⟨0, ![]⟩
abbrev S1024x1 : Shape := ⟨2, ![1024, 1]⟩
abbrev S1024x126 : Shape := ⟨2, ![1024, 126]⟩
abbrev S1024x384 : Shape := ⟨2, ![1024, 384]⟩
abbrev S1x1024 : Shape := ⟨2, ![1, 1024]⟩
abbrev S1024 : Shape := ⟨1, ![1024]⟩
abbrev S16384x1024 : Shape := ⟨2, ![16384, 1024]⟩
abbrev S8x1x2048 : Shape := ⟨3, ![8, 1, 2048]⟩
abbrev S8x1x1024 : Shape := ⟨3, ![8, 1, 1024]⟩
abbrev S8x1x128 : Shape := ⟨3, ![8, 1, 128]⟩
abbrev S2048x256 : Shape := ⟨2, ![2048, 256]⟩
abbrev S2048x1024 : Shape := ⟨2, ![2048, 1024]⟩
abbrev S1x1x2048 : Shape := ⟨3, ![1, 1, 2048]⟩
abbrev S1x1x1024 : Shape := ⟨3, ![1, 1, 1024]⟩
abbrev S1x1x128 : Shape := ⟨3, ![1, 1, 128]⟩
abbrev S2048 : Shape := ⟨1, ![2048]⟩
abbrev S2048x1 : Shape := ⟨2, ![2048, 1]⟩
abbrev S2048x384 : Shape := ⟨2, ![2048, 384]⟩
abbrev S2048x8 : Shape := ⟨2, ![2048, 8]⟩
abbrev S8x2048 : Shape := ⟨2, ![8, 2048]⟩
abbrev S1x2048 : Shape := ⟨2, ![1, 2048]⟩
abbrev S1x2048x256 : Shape := ⟨3, ![1, 2048, 256]⟩
abbrev S1 : Shape := ⟨1, ![1]⟩
abbrev S1x1x1 : Shape := ⟨3, ![1, 1, 1]⟩
abbrev S1x1 : Shape := ⟨2, ![1, 1]⟩
abbrev S1x128 : Shape := ⟨2, ![1, 128]⟩
abbrev S16384 : Shape := ⟨1, ![16384]⟩

abbrev nBuf : Space → Nat
  | .hbm => 34
  | .vmem => 21
  | .smem => 0
  | _ => 0

abbrev bufTy : (tb : Table) → Fin (tcTables nBuf tb) → BufTy
  | .hbm, ⟨0, _⟩ => ⟨S16x1024x256, .f32⟩
  | .hbm, ⟨1, _⟩ => ⟨S1024x256, .f32⟩
  | .hbm, ⟨2, _⟩ => ⟨S16384x256, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S1024x1, .i32⟩
  | .hbm, ⟨8, _⟩ => ⟨S_, .i32⟩
  | .hbm, ⟨9, _⟩ => ⟨S1024x1, .i32⟩
  | .hbm, ⟨10, _⟩ => ⟨S1024x1, .i32⟩
  | .hbm, ⟨11, _⟩ => ⟨S_, .i32⟩
  | .hbm, ⟨12, _⟩ => ⟨S1024x1, .i32⟩
  | .hbm, ⟨13, _⟩ => ⟨S1024x1, .i32⟩
  | .hbm, ⟨14, _⟩ => ⟨S1024x1, .f32⟩
  | .hbm, ⟨15, _⟩ => ⟨S_, .i32⟩
  | .hbm, ⟨16, _⟩ => ⟨S1024x1, .i32⟩
  | .hbm, ⟨17, _⟩ => ⟨S1024x1, .i32⟩
  | .hbm, ⟨18, _⟩ => ⟨S1024x1, .f32⟩
  | .hbm, ⟨19, _⟩ => ⟨S_, .f32⟩
  | .hbm, ⟨20, _⟩ => ⟨S1024x126, .f32⟩
  | .hbm, ⟨21, _⟩ => ⟨S1024x384, .f32⟩
  | .hbm, ⟨22, _⟩ => ⟨S1x1024, .f32⟩
  | .hbm, ⟨23, _⟩ => ⟨S16384x1024, .f32⟩
  | .hbm, ⟨24, _⟩ => ⟨S16384x256, .f32⟩
  | .hbm, ⟨25, _⟩ => ⟨S8x1x2048, .i32⟩
  | .hbm, ⟨26, _⟩ => ⟨S8x1x1024, .f32⟩
  | .hbm, ⟨27, _⟩ => ⟨S8x1x128, .f32⟩
  | .hbm, ⟨28, _⟩ => ⟨S1x1, .f32⟩
  | .hbm, ⟨29, _⟩ => ⟨S1x1, .f32⟩
  | .hbm, ⟨30, _⟩ => ⟨S_, .f32⟩
  | .hbm, ⟨31, _⟩ => ⟨S16x1024x256, .f32⟩
  | .hbm, ⟨32, _⟩ => ⟨S_, .f32⟩
  | .hbm, ⟨33, _⟩ => ⟨S16384, .i32⟩
  | .local _ .vmem, ⟨0, _⟩ => ⟨S1024x256, .f32⟩
  | .local _ .vmem, ⟨1, _⟩ => ⟨S1x1024, .f32⟩
  | .local _ .vmem, ⟨2, _⟩ => ⟨S2048x256, .f32⟩
  | .local _ .vmem, ⟨3, _⟩ => ⟨S2048x256, .f32⟩
  | .local _ .vmem, ⟨4, _⟩ => ⟨S1024x384, .f32⟩
  | .local _ .vmem, ⟨5, _⟩ => ⟨S256x1024, .f32⟩
  | .local _ .vmem, ⟨6, _⟩ => ⟨S1x1024, .f32⟩
  | .local _ .vmem, ⟨7, _⟩ => ⟨S2048x1024, .f32⟩
  | .local _ .vmem, ⟨8, _⟩ => ⟨S2048x1024, .f32⟩
  | .local _ .vmem, ⟨9, _⟩ => ⟨S2048x256, .f32⟩
  | .local _ .vmem, ⟨10, _⟩ => ⟨S2048x256, .f32⟩
  | .local _ .vmem, ⟨11, _⟩ => ⟨S1x1x2048, .i32⟩
  | .local _ .vmem, ⟨12, _⟩ => ⟨S1x1x2048, .i32⟩
  | .local _ .vmem, ⟨13, _⟩ => ⟨S1x1x1024, .f32⟩
  | .local _ .vmem, ⟨14, _⟩ => ⟨S1x1x1024, .f32⟩
  | .local _ .vmem, ⟨15, _⟩ => ⟨S1x1x128, .f32⟩
  | .local _ .vmem, ⟨16, _⟩ => ⟨S1x1x128, .f32⟩
  | .local _ .vmem, ⟨17, _⟩ => ⟨S8x1x1024, .f32⟩
  | .local _ .vmem, ⟨18, _⟩ => ⟨S8x1x128, .f32⟩
  | .local _ .vmem, ⟨19, _⟩ => ⟨S1x1, .f32⟩
  | .local _ .vmem, ⟨20, _⟩ => ⟨S1x1, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v17_0 : Ref sig .tc := ⟨.hbm, 28, rfl⟩
abbrev main_v17_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8
abbrev cc1_sem5_0 : DmaSem sig := 9
abbrev cc1_sem5_1 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16
abbrev cc2_sem0_0 : DmaSem sig := 17
abbrev cc2_sem1_0 : DmaSem sig := 18
abbrev cc2_sem2_0 : DmaSem sig := 19
abbrev cc2_sem3_0 : DmaSem sig := 20

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x2048 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := .none

abbrev stage2_0 : Fin 1 → Memref sig .tc .vmem S8x1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S16x1024x256 : Shape := ⟨3, ![16, 1024, 256]⟩
abbrev S1024x256 : Shape := ⟨2, ![1024, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S1024x256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S256x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x1024, .i32⟩
  | .hbm, ⟨27, _⟩ => ⟨S16384x1024, .i32⟩
  | .hbm, ⟨28, _⟩ => ⟨S16384x1024, .i32⟩
  | .hbm, ⟨29, _⟩ => ⟨S16384x1024, .i1⟩
  | .hbm, ⟨30, _⟩ => ⟨S16384x1024, .f32⟩
  | .hbm, ⟨31, _⟩ => ⟨S16384x256, .f32⟩
  | .hbm, ⟨32, _⟩ => ⟨S16x1024x256, .f32⟩
  | .hbm, ⟨33, _⟩ => ⟨S16x1024x256, .f32⟩
  | .hbm, ⟨34, _⟩ => ⟨S16x1024x256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16x1024x256, .f32⟩
  | .hbm, ⟨40, _⟩ => ⟨S16x1024x256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16x1024x256, .f32⟩
  | .hbm, ⟨49, _⟩ => ⟨S16x1024x256, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Proof.PreFacts.lean ====
/- The side conditions that the precondition `finite_and_untied` states (shapes of its reductions, broadcasts and
   its product), each decided. -/
module

public import proofs.«01_k».proof.Pre_finite_and_untied

@[expose] public section

namespace Cert.Proof

open Idealize.ShloMosaic Cert.Pre_finite_and_untied

/-- The shape facts of the precondition's program hold. -/
instance preFacts : Cert.Pre_finite_and_untied.Facts where
  shapeCasts_S16x1024x256_S16384x256 := by decide
  reducesTo_S16384x256_S16384_d1 := by decide
  h_S_ := by decide
  bcast_S16384_S16384x1_0 := by decide
  reducesTo_S1024x256_S1024_d1 := by decide
  bcast_S1024_S1x1024_1 := by decide
  bcast_S16384x1_S16384x1024_0_1 := by decide
  bcast_S1x1024_S16384x1024_0_1 := by decide
  transposes_S1024x256_S256x1024_1_0 := by decide
  bcast_S_S16384x1024 := by decide
  reducesTo_S16384x1024_S16384_d1 := by decide
  bcast_S_S16x1024x256 := by decide
  bcast_S_S1024x256 := by decide
  dot_S16384x256_S256x1024_S16384x1024_1_0_0_1_n_n_wf := by decide

end Cert.Proof

end
-- ==== Proof.KernelRun.lean ====
/- The kernel's run with its results named: from any memory the program ends with every unscoped buffer at the
   contents `Gen.W5` that the stretches of host operations and the three regions leave, one after the other. The
   launch is set up as for the argument arrays' own claim (`Gen.frame`); here the result buffers are read as well. -/
module

public import proofs.«01_k».proof.Proof.Gen.KernelIdeal.Frame
public import Idealize.ShloMosaic.PureOps.Ideal

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The propositions of the launched program's logic. -/
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory the kernel runs, and each of its five result buffers ends at `Gen.W5`, the contents after its
    last host operation; the two argument arrays end as launched. -/
theorem run : θ_run defs (onTc (τ := τ) (main (F := Ideal))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_v19) = W5 m ρ c (Proc.devRef .tc main_v19)
      ∧ r.2.mem ((c.tc : Thread nD τ).loc main_v20) = W5 m ρ c (Proc.devRef .tc main_v20)
      ∧ r.2.mem ((c.tc : Thread nD τ).loc main_v16_0) = W5 m ρ c (Proc.devRef .tc main_v16_0)
      ∧ r.2.mem ((c.tc : Thread nD τ).loc main_v21) = W5 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v18 (by decide)), h c _ (mem_uc main_v19 (by decide)), h c _ (mem_uc main_v20 (by decide)),
       h c _ (mem_uc main_v16_0 (by decide)), h c _ (mem_uc main_v21 (by decide)),
       (h c _ (mem_uc main_arg0 (by decide))).trans (W5_main_arg0 m ρ c),
       (h c _ (mem_uc main_arg1 (by decide))).trans (W5_main_arg1 m ρ c)⟩)

end Cert.KernelIdeal.Val

end
-- ==== Proof.RefRun.lean ====
/- The reference's run: what its five results hold, as the operations of its text applied to the two argument arrays. -/
module

public import proofs.«01_k».proof.Proof.Gen.ReferenceIdeal
public import Idealize.ShloMosaic.Lib.Claim
public import Idealize.ShloMosaic.PureOps.Ideal
public import Idealize.ShloMosaic.Adequacy
public import Idealize.ShloMosaic.Init

@[expose] public section

set_option maxRecDepth 16384

noncomputable section

namespace Cert.ReferenceIdeal.Val

open Idealize.ShloMosaic Idealize.SL.Sem Cert.ReferenceIdeal Cert.ReferenceIdeal.Facts₀

/-- The input as 16384 rows. -/
def rows (x : FVec Ideal S16x1024x256 .f32) : FVec Ideal S16384x256 .f32 :=
  shapeCast S16384x256 x shapeCasts_S16x1024x256_S16384x256

/-- The distance of every row to every code. -/
def distances (x : FVec Ideal S16x1024x256 .f32) (e : FVec Ideal S1024x256 .f32) : FVec Ideal S16384x1024 .f32 :=
  subf
    (addf
      (broadcastInDim S16384x1024 ![0, 1] bcast_S16384x1_S16384x1024_0_1
        (broadcastInDim S16384x1 ![0] bcast_S16384_S16384x1_0
          (Host.reduceAdd (mulf (rows x) (rows x)) (constant S_ .f32 0x00000000#32) reducesTo_S16384x256_S16384_d1 h_S_)))
      (broadcastInDim S16384x1024 ![0, 1] bcast_S1x1024_S16384x1024_0_1
        (broadcastInDim S1x1024 ![1] bcast_S1024_S1x1024_1
          (Host.reduceAdd (mulf e e) (constant S_ .f32 0x00000000#32) reducesTo_S1024x256_S1024_d1 h_S_))))
    (mulf
      (broadcastInDim S16384x1024 ![] bcast_S_S16384x1024 (constant S_ .f32 0x40000000#32))
      (Host.dotGeneral dot_S16384x256_S256x1024_S16384x1024_1_0_0_1_n_n none (rows x)
        (transpose S256x1024 [1, 0] e transposes_S1024x256_S256x1024_1_0)))

/-- The index of the least distance of every row, as the arg-min reduction gives it. -/
def nearest (d : FVec Ideal S16384x1024 .f32) : IVec S16384 32 := fun j =>
  (Host.argReduce (reducer_argmin_f32_i32 (F := Ideal)) d (iotaInDim S16384x1024 32 1) (constant S_ .f32 0x7F800000#32)
    (constantI S_ 32 0#32) reducesTo_S16384x1024_S16384_d1 h_S_ j).2

/-- The rows of zeros with a one at the given index. -/
def oneHot (a : IVec S16384 32) : FVec Ideal S16384x1024 .f32 :=
  uitofp .f32
    (cmpi .eq
      (broadcastInDim S16384x1024 ![0, 1] bcast_S16384x1_S16384x1024_0_1
        (broadcastInDim S16384x1 ![0] bcast_S16384_S16384x1_0 a))
      (broadcastInDim S16384x1024 ![0, 1] bcast_S1x1024_S16384x1024_0_1 (iotaInDim S1x1024 32 1)))

/-- The rows looked up in the code table, in the input's shape. -/
def quantized (h : FVec Ideal S16384x1024 .f32) (e : FVec Ideal S1024x256 .f32) : FVec Ideal S16x1024x256 .f32 :=
  shapeCast S16x1024x256
    (Host.dotGeneral dot_S16384x1024_S1024x256_S16384x256_1_0_0_1_n_n none h e) shapeCasts_S16384x256_S16x1024x256

/-- The mean squared difference. -/
def meanSquare (x q : FVec Ideal S16x1024x256 .f32) : FVec Ideal S_ .f32 :=
  Host.divf
    (Host.reduceAdd (mulf (subf q x) (subf q x)) (constant S_ .f32 0x00000000#32) reducesTo_S16x1024x256_S_d0_1_2 h_S_)
    (constant S_ .f32 0x4A800000#32)

/-- The loss: the mean squared difference plus a quarter of it. -/
def loss (x q : FVec Ideal S16x1024x256 .f32) : FVec Ideal S_ .f32 :=
  addf (meanSquare x q) (mulf (constant S_ .f32 0x3E800000#32) (meanSquare x q))

/-- The input plus the difference of what was looked up and the input. -/
def straight (x q : FVec Ideal S16x1024x256 .f32) : FVec Ideal S16x1024x256 .f32 := addf x (subf q x)

/-- The share of the rows that each code was chosen for. -/
def shares (h : FVec Ideal S16384x1024 .f32) : FVec Ideal S1024 .f32 :=
  Host.divf (Host.reduceAdd h (constant S_ .f32 0x00000000#32) reducesTo_S16384x1024_S1024_d0 h_S_)
    (broadcastInDim S1024 ![] bcast_S_S1024 (constant S_ .f32 0x46800000#32))

/-- The perplexity of the shares. -/
def perplexity (h : FVec Ideal S16384x1024 .f32) : FVec Ideal S_ .f32 :=
  Host.exp (Host.negf (Host.reduceAdd
    (mulf (shares h)
      (Host.log (addf (shares h) (broadcastInDim S1024 ![] bcast_S_S1024 (constant S_ .f32 0x2EDBE6FF#32)))))
    (constant S_ .f32 0x00000000#32) reducesTo_S1024_S_d0 h_S_))

variable (m : (ℓ : Loc nD τ sig) → Buf (Elt Ideal) ℓ) (g : Dev nD → PrngReg)

/-- The input array of device `c`. -/
abbrev argX (c : Dev nD) : FVec Ideal S16x1024x256 .f32 := m ((c.tc : Thread nD τ).loc main_arg0)
/-- The code table of device `c`. -/
abbrev argE (c : Dev nD) : FVec Ideal S1024x256 .f32 := m ((c.tc : Thread nD τ).loc main_arg1)
/-- The rows of zeros and ones of device `c`. -/
abbrev marks (c : Dev nD) : FVec Ideal S16384x1024 .f32 := oneHot (nearest (distances (argX m c) (argE m c)))

/-- A list of operations run as its first `n`, then the rest. -/
theorem after_cut {Val : EltTy → Type} (n : ℕ) (ops : List (HloOp τ sig Val)) (V : Valuation τ sig Val) :
    StableHlo.after ops V = StableHlo.after (ops.drop n) (StableHlo.after (ops.take n) V) := by
  induction n generalizing ops V with
  | zero => rfl
  | succ n ih =>
    cases ops with
    | nil => rfl
    | cons op l => exact ih l _

/-- The reference runs, and its results are the terms above. -/
theorem run : θ_run (defs (F := Ideal)) (onTc (τ := τ) (main (F := Ideal))) ⟨m, fun _ => 0, g⟩ (fun r => ∀ c : Dev nD,
      r.2.mem ((c.tc : Thread nD τ).loc main_v28) = loss (argX m c) (quantized (marks m c) (argE m c))
      ∧ r.2.mem ((c.tc : Thread nD τ).loc main_v30) = straight (argX m c) (quantized (marks m c) (argE m c))
      ∧ r.2.mem ((c.tc : Thread nD τ).loc main_v40) = perplexity (marks m c)
      ∧ r.2.mem ((c.tc : Thread nD τ).loc main_v16) = marks m c
      ∧ r.2.mem ((c.tc : Thread nD τ).loc main_v15) = nearest (distances (argX m c) (argE m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (StableHlo.run_hlo _ _ (by hlo_seq) (by decide) (by decide) (by simp)
      (by intro _ h; (repeat (cases h with | head => rfl | tail _ h => ?_)); exact nomatch h) _ _) ?_
  intro r hr c
  have hc := hr c
  clear hr
  rw [after_cut 18 _ (StableHlo.launchContents m c)] at hc
  simp only [List.take_succ_cons, List.take_zero, List.drop_succ_cons, List.drop_zero] at hc
  generalize hA : StableHlo.after _ (StableHlo.launchContents m c) = A at hc
  have A14 : A (Proc.devRef .tc main_v14) = distances (argX m c) (argE m c) := by
    rw [← hA]; after_results; rfl
  have A0 : A (Proc.devRef .tc main_arg0) = argX m c := by
    rw [← hA]; after_results
  have A1 : A (Proc.devRef .tc main_arg1) = argE m c := by
    rw [← hA]; after_results
  clear hA
  rw [after_cut 11 _ A] at hc
  simp only [List.take_succ_cons, List.take_zero, List.drop_succ_cons, List.drop_zero] at hc
  generalize hB : StableHlo.after _ A = B at hc
  have B15 : B (Proc.devRef .tc main_v15) = nearest (A (Proc.devRef .tc main_v14)) := by
    rw [← hB]; after_results
    simp -implicitDefEqProofs only [StableHlo.TRef.toBuf, StableHlo.TRef.ofBuf, cast_cast, cast_eq]
    delta nearest
    rfl
  have B16 : B (Proc.devRef .tc main_v16) = oneHot (nearest (A (Proc.devRef .tc main_v14))) := by
    rw [← hB]; after_results
    simp -implicitDefEqProofs only [StableHlo.TRef.toBuf, StableHlo.TRef.ofBuf, cast_cast, cast_eq]
    delta oneHot nearest
    rfl
  have B0 : B (Proc.devRef .tc main_arg0) = A (Proc.devRef .tc main_arg0) := by
    rw [← hB]; after_results
  have B1 : B (Proc.devRef .tc main_arg1) = A (Proc.devRef .tc main_arg1) := by
    rw [← hB]; after_results
  clear hB
  rw [A14] at B15 B16
  rw [A0] at B0
  rw [A1] at B1
  clear A14 A0 A1
  refine ⟨?_, ?_, ?_, ?_, ?_, ?_, ?_⟩
  all_goals rw [hc]; after_results
  · change loss (B (Proc.devRef .tc main_arg0)) (quantized (B (Proc.devRef .tc main_v16)) (B (Proc.devRef .tc main_arg1))) = _
    rw [B16, B0, B1]
  · change straight (B (Proc.devRef .tc main_arg0)) (quantized (B (Proc.devRef .tc main_v16)) (B (Proc.devRef .tc main_arg1))) = _
    rw [B16, B0, B1]
  · change perplexity (B (Proc.devRef .tc main_v16)) = _
    rw [B16]
  · exact B16
  · exact B15
  · exact B0
  · exact B1

end Cert.ReferenceIdeal.Val

end
-- ==== Proof.Rows.lean ====
/- What the kernel computes for one row of the input, as sums over extended reals: the distances to the codes, the
   row of zeros and ones that marks the codes at the least distance, and the combination of a column with that row. -/
module

public import Idealize.ShloMosaic.PureOps.Ideal
public import Idealize.ShloMosaic.Lib.Pointwise

@[expose] public section

noncomputable section

namespace Cert.Proof

open Idealize.ShloMosaic

/-- The kernel's distance of the row `x` to code `k`: the row's squared length, plus the code's squared length
    `n k`, plus the row times the scaled code table `E`. -/
def kdist (x : Fin 256 → EReal) (E : Fin 256 → Fin 1024 → EReal) (n : Fin 1024 → EReal) (k : Fin 1024) : EReal :=
  ∑ j, x j * x j + n k + ∑ j, x j * E j k

/-- The least of a row's values. -/
def least (d : Fin 1024 → EReal) : EReal := Finset.univ.fold min ⊤ d

/-- One where the row `x` is at its least distance, zero elsewhere. -/
def hot (x : Fin 256 → EReal) (E : Fin 256 → Fin 1024 → EReal) (n : Fin 1024 → EReal) (k : Fin 1024) : EReal :=
  if kdist x E n k = least (kdist x E n) then 1 else 0

/-- The row of zeros and ones times a column `w`. -/
def mix (x : Fin 256 → EReal) (E : Fin 256 → Fin 1024 → EReal) (n : Fin 1024 → EReal) (w : Fin 1024 → EReal) : EReal :=
  ∑ k, hot x E n k * w k

/-- A one-bit answer widened and read as a float is one or zero. -/
theorem bit_float (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p <;> simp [h]

/-- A one-bit answer read as an unsigned number is one or zero. -/
theorem bit_ufloat (p : Prop) [Decidable p] :
    (FloatOps.uitofp (F := Ideal) .f32 (BitVec.ofBool (decide p)) : EReal) = if p then 1 else 0 := by
  show ((((BitVec.ofBool (decide p)).toNat : ℝ)) : EReal) = _
  by_cases h : p <;> simp [h]

/-- The word of positive infinity reads as the top element. -/
theorem ofBits_inf : Ideal.ofBits .f32 0x7F800000#32 = ⊤ := by
  simp [Ideal.ofBits, Ideal.ieee]

end Cert.Proof

end
-- ==== Proof.RefValues.lean ====
/- The reference's terms read at an index: sums and products of the arguments' entries. -/
module

public import proofs.«01_k».proof.Proof.RefRun
public import proofs.«01_k».proof.Proof.Rows
public import Idealize.ShloMosaic.Lib.Pointwise

@[expose] public section

set_option maxRecDepth 16384

noncomputable section

namespace Cert.ReferenceIdeal.Val

open Idealize.ShloMosaic Cert.ReferenceIdeal Cert.ReferenceIdeal.Facts₀

variable (x : FVec Ideal S16x1024x256 .f32) (e : FVec Ideal S1024x256 .f32)

/-- A distance: the row's squared length plus the code's, less twice their product. -/
theorem distances_at (r : Fin 16384) (k : Fin 1024) :
    distances x e (ix2 r k)
      = (∑ j, rows x (ix2 r j) * rows x (ix2 r j) : EReal) + (∑ j, e (ix2 k j) * e (ix2 k j) : EReal)
        - Ideal.ofBits .f32 0x40000000#32 * (∑ j, rows x (ix2 r j) * e (ix2 k j) : EReal) := by
  unfold distances
  generalize rows x = y
  pointwise

/-- A mark: one at the given index, zero elsewhere. -/
theorem oneHot_at (a : IVec S16384 32) (r : Fin 16384) (k : Fin 1024) :
    oneHot a (ix2 r k) = if a (ix1 r) = BitVec.ofNat 32 k.val then (1 : EReal) else 0 := by
  unfold oneHot
  pointwise
  show FloatOps.uitofp (F := Ideal) .f32 (BitVec.ofBool (a (ix1 r) == BitVec.ofNat 32 k.val)) = _
  rw [show (a (ix1 r) == BitVec.ofNat 32 k.val) = decide (a (ix1 r) = BitVec.ofNat 32 k.val) from rfl]
  exact Cert.Proof.bit_ufloat _

/-- What was looked up: the row of marks times a column of the table. -/
theorem quantized_at (h : FVec Ideal S16384x1024 .f32) (b : Fin 16) (t : Fin 1024) (j : Fin 256) :
    quantized h e (ix3 b t j)
      = (∑ k, h (ix2 (⟨b.val * 1024 + t.val, by omega⟩ : Fin 16384) k) * e (ix2 k j) : EReal) := by
  unfold quantized
  pointwise

/-- A row of the input. -/
theorem rows_at (r : Fin 16384) (j : Fin 256) :
    rows x (ix2 r j) = x (ix3 (⟨r.val / 1024, by omega⟩ : Fin 16) (⟨r.val % 1024, by omega⟩ : Fin 1024) j) := by
  unfold rows
  pointwise

/-- The mean squared difference as a sum over the entries. -/
theorem meanSquare_at (q : FVec Ideal S16x1024x256 .f32) (i : S_.Idx) :
    meanSquare x q i = Ideal.div (∑ b : Fin 16, ∑ t : Fin 1024, ∑ j : Fin 256,
      (q (ix3 b t j) - x (ix3 b t j)) * (q (ix3 b t j) - x (ix3 b t j)) : EReal) (Ideal.ofBits .f32 0x4A800000#32) := by
  unfold meanSquare
  pointwise

/-- The loss from the mean squared difference. -/
theorem loss_at (q : FVec Ideal S16x1024x256 .f32) (i : S_.Idx) :
    loss x q i = (meanSquare x q i + Ideal.ofBits .f32 0x3E800000#32 * meanSquare x q i : EReal) := by
  unfold loss
  generalize meanSquare x q = y
  pointwise

/-- The perplexity as a sum over the codes. -/
theorem perplexity_at (h : FVec Ideal S16384x1024 .f32) (i : S_.Idx) :
    perplexity h i = Ideal.exp (-∑ k : Fin 1024,
      Ideal.div (∑ r : Fin 16384, h (ix2 r k) : EReal) (Ideal.ofBits .f32 0x46800000#32)
        * Ideal.log (Ideal.div (∑ r : Fin 16384, h (ix2 r k) : EReal) (Ideal.ofBits .f32 0x46800000#32)
            + Ideal.ofBits .f32 0x2EDBE6FF#32)) := by
  unfold perplexity shares
  pointwise

end Cert.ReferenceIdeal.Val

end
-- ==== Proof.Untied.lean ====
/- What the precondition says of the two argument arrays: every entry is a number, and every row has one code at its
   least distance, which the arg-min reduction names. -/
module

public import proofs.«01_k».proof.Proof.PreFacts
public import proofs.«01_k».proof.Proof.RefValues

@[expose] public section

set_option maxRecDepth 16384

noncomputable section

namespace Cert.Proof

open Idealize.ShloMosaic Cert.ReferenceIdeal Cert.ReferenceIdeal.Val

variable (x : FVec Ideal S16x1024x256 .f32) (e : FVec Ideal S1024x256 .f32)

/-- A number whose absolute value is below infinity is a real number. -/
theorem real_of_abs {v : EReal} (h : FloatOps.absf (F := Ideal) (φ := .f32) v < Ideal.ofBits .f32 0x7F800000#32) :
    ∃ a : ℝ, v = a := by
  rw [ofBits_inf] at h
  change max v (-v) < ⊤ at h
  induction v with
  | bot => simp at h
  | top => simp at h
  | coe a => exact ⟨a, rfl⟩

/-- A one-bit answer that is one holds. -/
theorem of_bit {p : Prop} [Decidable p] (h : BitVec.ofBool (decide p) = 1#1) : p := by
  by_contra hp
  simp [hp] at h

/-- Under the precondition every entry of the input is a real number. -/
theorem pre_x (h : (Cert.Pre_finite_and_untied.fn (F := Ideal) x e).1 = fun _ => 1#1) (b : Fin 16) (t : Fin 1024)
    (j : Fin 256) : ∃ a : ℝ, x (ix3 b t j) = (a : EReal) := by
  have h' := congrFun h (ix3 b t j)
  simp only [Cert.Pre_finite_and_untied.fn, Cert.Pre_finite_and_untied.fn_part1] at h'
  replace h' : BitVec.ofBool (decide (FloatOps.absf (F := Ideal) (φ := .f32) (x (ix3 b t j)) < Ideal.ofBits .f32 0x7F800000#32)) = 1#1 := by
    refine Eq.trans ?_ h'
    pointwise
  exact real_of_abs (of_bit h')

/-- Under the precondition every entry of the code table is a real number. -/
theorem pre_e (h : (Cert.Pre_finite_and_untied.fn (F := Ideal) x e).2.1 = fun _ => 1#1) (k : Fin 1024) (j : Fin 256) :
    ∃ a : ℝ, e (ix2 k j) = (a : EReal) := by
  have h' := congrFun h (ix2 k j)
  simp only [Cert.Pre_finite_and_untied.fn, Cert.Pre_finite_and_untied.fn_part1] at h'
  replace h' : BitVec.ofBool (decide (FloatOps.absf (F := Ideal) (φ := .f32) (e (ix2 k j)) < Ideal.ofBits .f32 0x7F800000#32)) = 1#1 := by
    refine Eq.trans ?_ h'
    pointwise
  exact real_of_abs (of_bit h')

/-- The third answer, over the distances `d` and the arg-min indices `a`. -/
def third (d : FVec Ideal S16384x1024 .f32) (a : IVec S16384 32) : IVec S16384x1024 1 :=
  (Cert.Pre_finite_and_untied.fn_part1 (F := Ideal) (fun _ => 0) (fun _ => 0) d
    (broadcastInDim Cert.Pre_finite_and_untied.S16384x1 ![0] Cert.Pre_finite_and_untied.Facts.bcast_S16384_S16384x1_0 a)
    (iotaInDim Cert.Pre_finite_and_untied.S16384x1024 32 1)
    (broadcastInDim Cert.Pre_finite_and_untied.S16384x1 ![0] Cert.Pre_finite_and_untied.Facts.bcast_S16384_S16384x1_0
      (Host.reduce FloatOps.minimumf d (constant Cert.Pre_finite_and_untied.S_ .f32 0x7F800000#32)
        Cert.Pre_finite_and_untied.Facts.reducesTo_S16384x1024_S16384_d1 Cert.Pre_finite_and_untied.Facts.h_S_))).2.2

/-- The precondition's distances and arg-min indices are the reference's. -/
theorem pre_d : (Cert.Pre_finite_and_untied.fn (F := Ideal) x e).2.2 = third (distances x e) (nearest (distances x e)) := by
  rfl

/-- The third answer at a row and a code: the code is the arg-min's, or its distance is above the least. -/
theorem third_at (d : FVec Ideal S16384x1024 .f32) (a : IVec S16384 32) (r : Fin 16384) (k : Fin 1024)
    (h : third d a (ix2 r k) = 1#1) :
    BitVec.ofNat 32 k.val = a (ix1 r) ∨ least (fun k => d (ix2 r k)) < d (ix2 r k) := by
  have h' : IntOp.ori (BitVec.ofBool (decide (BitVec.ofNat 32 k.val = a (ix1 r))))
      (BitVec.ofBool (decide (least (fun k => d (ix2 r k)) < d (ix2 r k)))) = 1#1 := by
    refine Eq.trans ?_ h
    unfold least
    rw [← ofBits_inf]
    simp only [third, Cert.Pre_finite_and_untied.fn_part1]
    pointwise
    rfl
  by_contra hn
  rw [not_or] at hn
  rw [decide_eq_false hn.1, decide_eq_false hn.2] at h'
  exact absurd h' (by decide)

/-- The least of a row's values is one of them. -/
theorem least_attained (d : Fin 1024 → EReal) : ∃ k, least d = d k := by
  obtain ⟨k, -, h⟩ := Finset.exists_mem_eq_inf Finset.univ Finset.univ_nonempty d
  exact ⟨k, h⟩

/-- Under the precondition the arg-min index of a row is the one code at which the row's distance is least. -/
theorem untied (h : (Cert.Pre_finite_and_untied.fn (F := Ideal) x e).2.2 = fun _ => 1#1) (r : Fin 16384) :
    ∃ near : Fin 1024, nearest (distances x e) (ix1 r) = BitVec.ofNat 32 near.val
      ∧ ∀ k, distances x e (ix2 r k) = least (fun k => distances x e (ix2 r k)) ↔ k = near := by
  rw [pre_d] at h
  generalize distances x e = d at h
  generalize nearest d = a at h
  have word : ∀ k, d (ix2 r k) = least (fun k => d (ix2 r k)) → BitVec.ofNat 32 k.val = a (ix1 r) := fun k hk =>
    (third_at d a r k (congrFun h _)).resolve_right fun hlt => absurd hk (ne_of_gt hlt)
  obtain ⟨near, hn⟩ := least_attained fun k => d (ix2 r k)
  refine ⟨near, (word near hn.symm).symm, fun k => ⟨fun hk => ?_, fun hk => hk ▸ hn.symm⟩⟩
  have e := (word k hk).trans (word near hn.symm).symm
  have e' := congrArg BitVec.toNat e
  rw [BitVec.toNat_ofNat, BitVec.toNat_ofNat, Nat.mod_eq_of_lt (by omega), Nat.mod_eq_of_lt (by omega)] at e'
  exact Fin.ext e'

end Cert.Proof

end
-- ==== Proof.Payloads.lean ====
/- The values that the kernel's three bodies store, read at an index: the codes' squared lengths; for one block of
   rows the marks, the looked-up rows, the index words, the counts and the block's squared difference; and from the
   blocks' partial results the loss and the perplexity. -/
module

public import proofs.«01_k».proof.Proof.Gen.KernelIdeal.Skeleton
public import proofs.«01_k».proof.Proof.Rows

@[expose] public section

set_option maxRecDepth 16384

noncomputable section

namespace Cert.Proof

open Idealize.ShloMosaic Cert.KernelIdeal Cert.KernelIdeal.Gen

section
variable {n : Nat}

/-- Row `r` of an array of 256 columns. -/
abbrev row (X : (⟨2, ![n, 256]⟩ : Shape).Idx → EReal) (r : Fin n) : Fin 256 → EReal := fun j => X (ix2 r j)
end

/-- The scaled code table as a function of its two coordinates. -/
abbrev tab (E : S256x1024.Idx → EReal) : Fin 256 → Fin 1024 → EReal := fun j k => E (ix2 j k)

/-- The one row of the codes' squared lengths. -/
abbrev line (n : S1x1024.Idx → EReal) : Fin 1024 → EReal := fun k => n (ix2 0 k)

/-- Column `j` of the widened code table. -/
abbrev col (W : S1024x384.Idx → EReal) (j : Fin 384) : Fin 1024 → EReal := fun k => W (ix2 k j)

/-- The squared length of each code. -/
theorem pay_norms (E : FVec Ideal S1024x256 .f32) (k : Fin 1024) :
    k0_pay1 (F := Ideal) E (ix2 0 k) = ∑ j, E (ix2 k j) * E (ix2 k j) := by
  pointwise [k0_pay1]

variable (X : FVec Ideal S2048x256 .f32) (E : FVec Ideal S256x1024 .f32) (n : FVec Ideal S1x1024 .f32)
  (W : FVec Ideal S1024x384 .f32)

/-- The marks of a block of rows. -/
theorem pay_hot (r : Fin 2048) (k : Fin 1024) :
    k1_pay4 (F := Ideal) X E n (ix2 r k) = hot (row X r) (tab E) (line n) k := by
  pointwise [k1_pay4, k1_pay3]
  rw [bit_float]
  have h := ofBits_inf
  rw [show (0x7F800000#32 : BitVec 32) = 2139095040#32 from rfl] at h
  rw [h]
  rfl

/-- The marks times the widened code table. -/
theorem pay_mix (r : Fin 2048) (j : Fin 384) :
    k1_pay5 (F := Ideal) X E n W (ix2 r j) = mix (row X r) (tab E) (line n) (col W j) := by
  pointwise [k1_pay5]
  exact Finset.sum_congr rfl fun k _ => by rw [pay_hot]

/-- The looked-up rows: the first 256 columns. -/
theorem pay_quant (r : Fin 2048) (j : Fin 256) :
    k1_pay6 (F := Ideal) X E n W (ix2 r j) = mix (row X r) (tab E) (line n) (col W ⟨j.val, by omega⟩) := by
  pointwise [k1_pay6]
  rw [pay_mix]

/-- The index words: the sum of columns 256 and 257, as an integer. -/
theorem pay_index (r : Fin 2048) :
    k1_pay7 (F := Ideal) X E n W (ix3 0 0 r)
      = Ideal.fptosi 32 (mix (row X r) (tab E) (line n) (col W 256) + mix (row X r) (tab E) (line n) (col W 257)) := by
  pointwise [k1_pay7]
  rw [pay_mix, pay_mix]
  rfl

/-- The number of marks of each code in the block. -/
theorem pay_counts (k : Fin 1024) :
    k1_pay1 (k1_pay8 (F := Ideal) X E n) (ix3 0 0 k) = ∑ r, hot (row X r) (tab E) (line n) k := by
  pointwise [k1_pay1, k1_pay8]
  exact Finset.sum_congr rfl fun r _ => by rw [pay_hot]

/-- The sum of the squared differences of the block, in every lane. -/
theorem pay_squares (Q : FVec Ideal S2048x256 .f32) (l : Fin 128) :
    k1_pay2 (F := Ideal) (k1_pay3 X) Q (ix3 0 0 l)
      = ∑ r, ∑ j, (Q (ix2 r j) - X (ix2 r j)) * (Q (ix2 r j) - X (ix2 r j)) := by
  pointwise [k1_pay2, k1_pay3]

/-- The loss of the blocks' partial sums. -/
theorem pay_loss (l : FVec Ideal S8x1x128 .f32) :
    k2_pay1 (F := Ideal) l (ix2 0 0) = (∑ b, l (ix3 b 0 0)) * Ideal.ofBits .f32 0x34A00000#32 := by
  pointwise [k2_pay1]

/-- The perplexity of the blocks' counts. -/
theorem pay_perplexity (l : FVec Ideal S8x1x1024 .f32) :
    k2_pay2 (F := Ideal) l (ix2 0 0)
      = Ideal.exp (0 - ∑ k, (∑ b, l (ix3 b 0 k)) * Ideal.ofBits .f32 0x38800000#32
          * Ideal.log ((∑ b, l (ix3 b 0 k)) * Ideal.ofBits .f32 0x38800000#32 + Ideal.ofBits .f32 0x2EDBE6FF#32)) := by
  pointwise [k2_pay2]
  rw [Fin.sum_univ_one]
  rfl

end Cert.Proof

end
-- ==== Proof.Arrays.lean ====
/- The arrays after each region, read at an index, from the contents at the region's entry: the first region's array of
   squared lengths, the middle region's five arrays (eight blocks of 2048 rows each), and the last region's two. -/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.Proof

open Idealize.ShloMosaic Idealize.ShloMosaic.TcCoe Cert.KernelIdeal Cert.KernelIdeal.Gen
open Idealize.ShloMosaic.Pipeline (Dat Cfg Window)

variable (V : (c : Dev nD) → (b : Ref sig .tc) → Buf (Elt Ideal) ((c : Thread nD τ).loc b)) (c : Dev nD)

/-- Row `a` of block `t`. -/
abbrev at_ (t : Fin 8) (a : Fin 2048) : Fin 16384 := ⟨2048 * t.val + a.val, by omega⟩

/-- Step `t` of the middle region reads the `t`-th block of rows. -/
theorem ix_x : ∀ t : Fin grid1.N, win1_0.index t = ![t.val, 0] := by decide +kernel
/-- Every step reads the whole widened table. -/
theorem ix_w : ∀ t : Fin grid1.N, win1_1.index t = ![0, 0] := by decide +kernel
/-- Every step reads the whole scaled table. -/
theorem ix_e : ∀ t : Fin grid1.N, win1_2.index t = ![0, 0] := by decide +kernel
/-- Every step reads all the codes' squared norms. -/
theorem ix_n : ∀ t : Fin grid1.N, win1_3.index t = ![0, 0] := by decide +kernel
/-- Step `t` writes the `t`-th block of marks. -/
theorem ix_hot : ∀ t : Fin grid1.N, win1_4.index t = ![t.val, 0] := by decide +kernel
/-- Step `t` writes the `t`-th block of looked-up rows. -/
theorem ix_quant : ∀ t : Fin grid1.N, win1_5.index t = ![t.val, 0] := by decide +kernel
/-- Step `t` writes the `t`-th block of index words. -/
theorem ix_index : ∀ t : Fin grid1.N, win1_6.index t = ![t.val, 0, 0] := by decide +kernel
/-- Step `t` writes the `t`-th block's counts. -/
theorem ix_counts : ∀ t : Fin grid1.N, win1_7.index t = ![t.val, 0, 0] := by decide +kernel
/-- Step `t` writes the `t`-th block's total of squared differences. -/
theorem ix_squares : ∀ t : Fin grid1.N, win1_8.index t = ![t.val, 0, 0] := by decide +kernel

/-- Block `t` of the input is the array's rows from `2048 t`. -/
theorem blk_x (t : Fin cfg1.N) (a : Fin 2048) (j : Fin 256) :
    iblk1 (F := Ideal) V c 0 t (ix2 a j) = V c main_v0 (ix2 (at_ t a) j) := by
  blk_ext [iblk1, ix_x t]

/-- Every block of the widened code table is the table. -/
theorem blk_w (t : Fin cfg1.N) (a : Fin 1024) (j : Fin 384) :
    iblk1 (F := Ideal) V c 1 t (ix2 a j) = V c main_v14 (ix2 a j) := by
  blk_ext [iblk1, ix_w t]

/-- Every block of the scaled code table is the table. -/
theorem blk_e (t : Fin cfg1.N) (a : Fin 256) (j : Fin 1024) :
    iblk1 (F := Ideal) V c 2 t (ix2 a j) = V c main_v3 (ix2 a j) := by
  blk_ext [iblk1, ix_e t]

/-- Every block of the squared lengths is the one row. -/
theorem blk_n (t : Fin cfg1.N) (j : Fin 1024) :
    iblk1 (F := Ideal) V c 3 t (ix2 0 j) = V c main_v15 (ix2 0 j) := by
  blk_ext [iblk1, ix_n t]

/-- Marks of row `r` at code `k`, from the contents at the region's entry. -/
def marks (r : Fin 16384) (k : Fin 1024) : EReal :=
  hot (row (V c main_v0) r) (tab (V c main_v3)) (line (V c main_v15)) k

/-- Row `r`'s marks times column `j` of the widened table, from the contents at the region's entry. -/
def looked (r : Fin 16384) (j : Fin 384) : EReal :=
  mix (row (V c main_v0) r) (tab (V c main_v3)) (line (V c main_v15)) (col (V c main_v14) j)

/-- A mark computed in step `t`'s blocks is the mark of the block's row in the whole array. -/
theorem marks_blk (t : Fin cfg1.N) (a : Fin 2048) (k : Fin 1024) :
    hot (row (iblk1 (F := Ideal) V c 0 t) a) (tab (iblk1 (F := Ideal) V c 2 t)) (line (iblk1 (F := Ideal) V c 3 t)) k
      = marks V c (at_ t a) k := by
  unfold marks row tab line
  simp only [blk_x, blk_e, blk_n]

/-- An entry looked up in step `t`'s blocks is the one looked up for the block's row in the whole array. -/
theorem looked_blk (t : Fin cfg1.N) (a : Fin 2048) (j : Fin 384) :
    mix (row (iblk1 (F := Ideal) V c 0 t) a) (tab (iblk1 (F := Ideal) V c 2 t)) (line (iblk1 (F := Ideal) V c 3 t))
        (col (iblk1 (F := Ideal) V c 1 t) j)
      = looked V c (at_ t a) j := by
  unfold looked row tab line col
  simp only [blk_x, blk_e, blk_n, blk_w]

/-- The array of marks after the middle region. -/
theorem arr_marks : (dat1 (F := Ideal) V c).arrAt 4 cfg1.N = fun i : S16384x1024.Idx => marks V c (i 0) (i 1) := by
  refine (dat1 V c).arrAt_eq_of_covers 4 _ (by decide +kernel) fun t hf y => ?_
  blk_simp; rw [after1_4]; unfold out1_4; frame_out
  idx_vars y
  rw [pay_hot, marks_blk]
  congr 1 <;> apply Fin.ext <;> blk_simp [ix_hot] <;> simp <;> omega

/-- The array of looked-up rows after the middle region. -/
theorem arr_quant :
    (dat1 (F := Ideal) V c).arrAt 5 cfg1.N = fun i : S16384x256.Idx => looked V c (i 0) ⟨(i 1).val, by have := (i 1).isLt; simp at this; omega⟩ := by
  refine (dat1 V c).arrAt_eq_of_covers 5 _ (by decide +kernel) fun t hf y => ?_
  blk_simp; rw [after1_5]; unfold out1_5; frame_out
  idx_vars y
  rw [pay_quant, looked_blk]
  congr 1 <;> apply Fin.ext <;> blk_simp [ix_quant] <;> simp <;> omega

/-- The index word of row `r`: the two index columns added and read as an integer. -/
def word (r : Fin 16384) : BitVec 32 := Ideal.fptosi 32 (looked V c r 256 + looked V c r 257)

/-- The array of index words after the middle region. -/
theorem arr_index :
    (dat1 (F := Ideal) V c).arrAt 6 cfg1.N = fun i : S8x1x2048.Idx => word V c (at_ (i 0) (i 2)) := by
  refine (dat1 V c).arrAt_eq_of_covers 6 _ (by decide +kernel) fun t hf y => ?_
  blk_simp; rw [after1_6]; unfold out1_6; frame_out
  idx_vars y
  rw [Fin.fin_one_eq_zero y0, Fin.fin_one_eq_zero y1, pay_index, looked_blk, looked_blk]
  change word V c (at_ t y2) = _
  have e0 : win1_6.index t 0 = t.val := congrFun (ix_index t) 0
  have e2 : win1_6.index t 2 = 0 := congrFun (ix_index t) 2
  congr 1
  apply Fin.ext
  blk_simp [ix_index]
  simp
  omega

/-- The count of code `k` in block `b`. -/
def count (b : Fin 8) (k : Fin 1024) : EReal := ∑ a, marks V c (at_ b a) k

/-- The array of the blocks' counts after the middle region. -/
theorem arr_counts :
    (dat1 (F := Ideal) V c).arrAt 7 cfg1.N = fun i : S8x1x1024.Idx => count V c (i 0) (i 2) := by
  refine (dat1 V c).arrAt_eq_of_covers 7 _ (by decide +kernel) fun t hf y => ?_
  blk_simp; rw [after1_7]; unfold out1_7; frame_out
  idx_vars y
  rw [Fin.fin_one_eq_zero y0, Fin.fin_one_eq_zero y1, pay_counts]
  have h : ∀ a, hot (row (iblk1 (F := Ideal) V c 0 t) a) (tab (iblk1 (F := Ideal) V c 2 t)) (line (iblk1 (F := Ideal) V c 3 t)) y2
      = marks V c (at_ t a) y2 := fun a => marks_blk V c t a y2
  refine (Finset.sum_congr rfl fun a _ => h a).trans ?_
  change count V c t y2 = _
  congr 1 <;> apply Fin.ext <;> blk_simp [ix_counts] <;> simp <;> omega

/-- The squared difference of row `r` and what was looked up for it, at column `j`. -/
def square (r : Fin 16384) (j : Fin 256) : EReal :=
  (looked V c r ⟨j.val, by omega⟩ - row (V c main_v0) r j) * (looked V c r ⟨j.val, by omega⟩ - row (V c main_v0) r j)

/-- The sum of the squared differences of block `b`. -/
def squares (b : Fin 8) : EReal := ∑ a, ∑ j, square V c (at_ b a) j

/-- The array of the blocks' squared differences after the middle region. -/
theorem arr_squares :
    (dat1 (F := Ideal) V c).arrAt 8 cfg1.N = fun i : S8x1x128.Idx => squares V c (i 0) := by
  refine (dat1 V c).arrAt_eq_of_covers 8 _ (by decide +kernel) fun t hf y => ?_
  blk_simp; rw [after1_8]; unfold out1_8; frame_out
  idx_vars y
  rw [Fin.fin_one_eq_zero y0, Fin.fin_one_eq_zero y1, pay_squares]
  have h : ∀ a j, k1_pay6 (F := Ideal) (iblk1 V c 0 t) (iblk1 V c 2 t) (iblk1 V c 3 t) (iblk1 V c 1 t) (ix2 a j)
      = looked V c (at_ t a) ⟨j.val, by omega⟩ := fun a j => by rw [pay_quant, looked_blk]
  have hx : ∀ a j, iblk1 (F := Ideal) V c 0 t (ix2 a j) = row (V c main_v0) (at_ t a) j := fun a j => blk_x V c t a j
  have e : (∑ a : Fin 2048, ∑ j : Fin 256,
      ((k1_pay6 (F := Ideal) (iblk1 V c 0 t) (iblk1 V c 2 t) (iblk1 V c 3 t) (iblk1 V c 1 t) (ix2 a j) : EReal)
          - (iblk1 (F := Ideal) V c 0 t (ix2 a j) : EReal))
        * ((k1_pay6 (F := Ideal) (iblk1 V c 0 t) (iblk1 V c 2 t) (iblk1 V c 3 t) (iblk1 V c 1 t) (ix2 a j) : EReal)
          - (iblk1 (F := Ideal) V c 0 t (ix2 a j) : EReal))) = squares V c t :=
    Finset.sum_congr rfl fun a _ => Finset.sum_congr rfl fun j _ => by rw [h, hx]; rfl
  refine e.trans ?_
  congr 1 <;> apply Fin.ext <;> blk_simp [ix_squares] <;> simp <;> omega

/-- The squared length of row `k` of the code table. -/
def norm (E : S1024x256.Idx → EReal) (k : Fin 1024) : EReal := ∑ j, E (ix2 k j) * E (ix2 k j)

/-- The first region reads the whole table. -/
theorem ix_table : ∀ t : Fin grid0.N, win0_0.index t = ![0, 0] := by decide +kernel
/-- The first region writes all the squared norms. -/
theorem ix_norms : ∀ t : Fin grid0.N, win0_1.index t = ![0, 0] := by decide +kernel

/-- The array of squared lengths after the first region. -/
theorem arr_norms :
    (dat0 (F := Ideal) V c).arrAt 1 cfg0.N = fun i : S1x1024.Idx => norm (V c main_arg1) (i 1) := by
  refine (dat0 V c).arrAt_eq_of_covers 1 _ (by decide +kernel) fun t hf y => ?_
  blk_simp; rw [after0_1]; unfold out0_1; frame_out
  idx_vars y
  rw [Fin.fin_one_eq_zero y0, pay_norms]
  change norm (iblk0 (F := Ideal) V c 0 t) y1 = _
  congr 1
  · funext i
    idx_vars i
    blk_ext [iblk0, ix_table t]
  · apply Fin.ext; blk_simp [ix_norms]

/-- The loss of the blocks' sums: their total over the number of entries, times 1.25. -/
def lossOf (l : S8x1x128.Idx → EReal) : EReal := (∑ b, l (ix3 b 0 0)) * Ideal.ofBits .f32 0x34A00000#32

/-- The perplexity of the blocks' counts. -/
def perplexityOf (n : S8x1x1024.Idx → EReal) : EReal :=
  Ideal.exp (0 - ∑ k, (∑ b, n (ix3 b 0 k)) * Ideal.ofBits .f32 0x38800000#32
    * Ideal.log ((∑ b, n (ix3 b 0 k)) * Ideal.ofBits .f32 0x38800000#32 + Ideal.ofBits .f32 0x2EDBE6FF#32))

/-- The last region reads all the blocks' counts. -/
theorem ix_cnt : ∀ t : Fin grid2.N, win2_0.index t = ![0, 0, 0] := by decide +kernel
/-- The last region reads all the blocks' totals of squared differences. -/
theorem ix_sqr : ∀ t : Fin grid2.N, win2_1.index t = ![0, 0, 0] := by decide +kernel

/-- The loss after the last region. -/
theorem arr_loss :
    (dat2 (F := Ideal) V c).arrAt 2 cfg2.N = fun _ : S1x1.Idx => lossOf (V c main_v16_4) := by
  refine (dat2 V c).arrAt_eq_of_covers 2 _ (by decide +kernel) fun t hf y => ?_
  blk_simp; rw [after2_2]; unfold out2_2; frame_out
  idx_vars y
  rw [Fin.fin_one_eq_zero y0, Fin.fin_one_eq_zero y1, pay_loss]
  change lossOf (iblk2 (F := Ideal) V c 1 t) = _
  congr 1
  funext i
  idx_vars i
  blk_ext [iblk2, ix_sqr t]

/-- The perplexity after the last region. -/
theorem arr_perplexity :
    (dat2 (F := Ideal) V c).arrAt 3 cfg2.N = fun _ : S1x1.Idx => perplexityOf (V c main_v16_3) := by
  refine (dat2 V c).arrAt_eq_of_covers 3 _ (by decide +kernel) fun t hf y => ?_
  blk_simp; rw [after2_3]; unfold out2_3; frame_out
  idx_vars y
  rw [Fin.fin_one_eq_zero y0, Fin.fin_one_eq_zero y1, pay_perplexity]
  change perplexityOf (iblk2 (F := Ideal) V c 0 t) = _
  congr 1
  funext i
  idx_vars i
  blk_ext [iblk2, ix_cnt t]

end Cert.Proof

end
-- ==== Proof.Entry.lean ====
/- What the middle region reads, as functions of the two argument arrays: the input's rows, the code table scaled by
   minus two, the table widened by two index columns, and the squared lengths of the codes. -/
module

public import proofs.«01_k».proof.Proof.Arrays
public import Idealize.ShloMosaic.Lib.StableHlo.ReadAt

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The kernel's input array on device `c`. -/
abbrev inX : FVec Ideal S16x1024x256 .f32 := m ((c : Thread nD τ).loc main_arg0)
/-- The kernel's code table on device `c`. -/
abbrev inE : FVec Ideal S1024x256 .f32 := m ((c : Thread nD τ).loc main_arg1)

/-- The input as 16384 rows. -/
abbrev flat (x : FVec Ideal S16x1024x256 .f32) : FVec Ideal S16384x256 .f32 :=
  shapeCast S16384x256 x shapeCasts_S16x1024x256_S16384x256

/-- The rows that the middle region reads. -/
theorem entry_rows : V2 m ρ c main_v0 = flat (inX m c) := by
  refine (W2_of_ne m ρ c main_v0 (by decide)).trans ?_
  after_results
  rfl

/-- The scaled table that the middle region reads. -/
theorem entry_scaled (j : Fin 256) (k : Fin 1024) :
    V2 m ρ c main_v3 (ix2 j k) = Ideal.ofBits .f32 0xC0000000#32 * inE m c (ix2 k j) := by
  rw [show V2 m ρ c main_v3 = W1 m ρ c (Proc.devRef .tc main_v3) from W2_of_ne m ρ c main_v3 (by decide)]
  after_reads_at

/-- The squared lengths that the middle region reads. -/
theorem entry_norms (k : Fin 1024) : V2 m ρ c main_v15 (ix2 0 k) = norm (inE m c) k := by
  rw [show V2 m ρ c main_v15 = _ from (W2_arr m ρ c 1).trans (arr_norms (V1 m ρ) c),
    show V1 m ρ c main_arg1 = inE m c from W1_args m ρ c main_arg1 (by decide)]
  rfl

/-- The widened table's first 256 columns are the table. -/
theorem entry_wide (k : Fin 1024) (j : Fin 256) :
    V2 m ρ c main_v14 (ix2 k ⟨j.val, by omega⟩) = inE m c (ix2 k j) := by
  rw [show V2 m ρ c main_v14 = W1 m ρ c (Proc.devRef .tc main_v14) from W2_of_ne m ρ c main_v14 (by decide)]
  after_reads_at

/-- The word of a code's index with its low seven bits cleared, as an integer. -/
theorem hi_word : ∀ k : Fin 1024,
    (IntOp.shli ArithUnit.host (IntOp.shrsi ArithUnit.host (BitVec.ofNat 32 k.val) 7#32) 7#32).toInt
      = ((k.val / 128 * 128 : ℕ) : ℤ) := by decide +kernel

/-- The word of the low seven bits of a code's index, as an integer. -/
theorem lo_word : ∀ k : Fin 1024, (IntOp.andi (BitVec.ofNat 32 k.val) 127#32).toInt = ((k.val % 128 : ℕ) : ℤ) := by
  decide +kernel

/-- The widened table's column 256: the index with its low seven bits cleared. -/
theorem entry_hi (k : Fin 1024) :
    V2 m ρ c main_v14 (ix2 k 256) = (((k.val / 128 * 128 : ℕ) : ℝ) : EReal) := by
  rw [show V2 m ρ c main_v14 = W1 m ρ c (Proc.devRef .tc main_v14) from W2_of_ne m ρ c main_v14 (by decide)]
  after_reads_at
  rw [StableHlo.unary_result']
  simp only [StableHlo.upto, List.take_succ_cons, List.take_zero]
  after_results
  pointwise
  show ((((IntOp.shli ArithUnit.host (IntOp.shrsi ArithUnit.host (BitVec.ofNat 32 k.val) 7#32) 7#32).toInt : ℝ)) : EReal) = _
  rw [hi_word]
  rfl

/-- The widened table's column 257: the index's low seven bits. -/
theorem entry_lo (k : Fin 1024) :
    V2 m ρ c main_v14 (ix2 k 257) = (((k.val % 128 : ℕ) : ℝ) : EReal) := by
  rw [show V2 m ρ c main_v14 = W1 m ρ c (Proc.devRef .tc main_v14) from W2_of_ne m ρ c main_v14 (by decide)]
  after_reads_at
  rw [StableHlo.unary_result']
  simp only [StableHlo.upto, List.take_succ_cons, List.take_zero]
  after_results
  pointwise
  show ((((IntOp.andi (BitVec.ofNat 32 k.val) 127#32).toInt : ℝ)) : EReal) = _
  rw [lo_word]
  rfl

end Cert.Proof

end
-- ==== Proof.Numbers.lean ====
/- The numbers behind the two programs' constants, and the arithmetic over real entries that the two programs do in
   different order: the distance, the looked-up row, the sums over blocks, the loss and the shares. -/
module

public import proofs.«01_k».proof.Proof.Rows
public import Mathlib.Tactic.Ring
public import Mathlib.Tactic.NormNum
public import Mathlib.Data.EReal.Inv

@[expose] public section

noncomputable section

namespace Cert.Proof

open Idealize.ShloMosaic

/-- The word of −2. -/
theorem bits_neg_two : Ideal.ofBits .f32 0xC0000000#32 = ((-2 : ℝ) : EReal) := by
  simp [Ideal.ofBits, Ideal.ieee]; norm_num; rw [← EReal.coe_mul]; norm_num
/-- The word of 2. -/
theorem bits_two : Ideal.ofBits .f32 0x40000000#32 = ((2 : ℝ) : EReal) := by
  simp [Ideal.ofBits, Ideal.ieee]; norm_num; rw [← EReal.coe_mul]; norm_num
/-- The word of the number of input entries. -/
theorem bits_size : Ideal.ofBits .f32 0x4A800000#32 = ((4194304 : ℝ) : EReal) := by
  simp [Ideal.ofBits, Ideal.ieee]; norm_num; rw [← EReal.coe_mul]; norm_num
/-- The word of the commitment weight, a quarter. -/
theorem bits_quarter : Ideal.ofBits .f32 0x3E800000#32 = ((1 / 4 : ℝ) : EReal) := by
  simp [Ideal.ofBits, Ideal.ieee]; norm_num; rw [← EReal.coe_mul]; norm_num
/-- The word of the loss's scale: five quarters over the number of entries. -/
theorem bits_scale : Ideal.ofBits .f32 0x34A00000#32 = ((5 / 4 / 4194304 : ℝ) : EReal) := by
  simp [Ideal.ofBits, Ideal.ieee]; norm_num; rw [← EReal.coe_mul]; norm_num
/-- The word of the number of rows. -/
theorem bits_rows : Ideal.ofBits .f32 0x46800000#32 = ((16384 : ℝ) : EReal) := by
  simp [Ideal.ofBits, Ideal.ieee]; norm_num; rw [← EReal.coe_mul]; norm_num
/-- The word of one over the number of rows. -/
theorem bits_share : Ideal.ofBits .f32 0x38800000#32 = ((1 / 16384 : ℝ) : EReal) := by
  simp [Ideal.ofBits, Ideal.ieee]; norm_num; rw [← EReal.coe_mul]; norm_num

/-- A sum of real numbers is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The two distances agree over real entries: the kernel adds the product with the table scaled by minus two, the
    reference takes away twice the product with the table. -/
theorem kdist_eq (y : Fin 256 → EReal) (E : Fin 1024 → Fin 256 → EReal) (hy : ∀ j, ∃ a : ℝ, y j = a)
    (hE : ∀ k j, ∃ a : ℝ, E k j = a) (k : Fin 1024) :
    kdist y (fun j k => Ideal.ofBits .f32 0xC0000000#32 * E k j) (fun k => ∑ j, E k j * E k j) k
      = (∑ j, y j * y j) + (∑ j, E k j * E k j) - Ideal.ofBits .f32 0x40000000#32 * (∑ j, y j * E k j) := by
  choose a ha using hy
  choose b hb using hE
  unfold kdist
  rw [bits_neg_two, bits_two]
  simp only [ha, hb, ← EReal.coe_mul, coe_sum, ← EReal.coe_add, ← EReal.coe_sub]
  congr 1
  have h : ∑ j, a j * (-2 * b k j) = -(2 * ∑ j, a j * b k j) := by
    rw [Finset.mul_sum, ← Finset.sum_neg_distrib]
    exact Finset.sum_congr rfl fun j _ => by ring
  rw [h, ← sub_eq_add_neg]

/-- A row with a single one times a column picks the column's entry. -/
theorem pick (n : Fin 1024) (w : Fin 1024 → EReal) : (∑ k, (if k = n then (1 : EReal) else 0) * w k) = w n := by
  rw [Finset.sum_eq_single n (fun k _ h => by rw [if_neg h, zero_mul]) (fun h => absurd (Finset.mem_univ _) h),
    if_pos rfl, one_mul]

/-- A sum block by block is the sum over all. -/
theorem sum_blocks {N : ℕ} (p q : ℕ) (hN : p * q = N) (f : Fin N → EReal) :
    (∑ b : Fin p, ∑ a : Fin q, f ⟨q * b.val + a.val, by
      have := b.isLt; have := a.isLt
      calc q * b.val + a.val < q * b.val + q := by omega
        _ = q * (b.val + 1) := by ring
        _ ≤ q * p := Nat.mul_le_mul_left _ (by omega)
        _ = N := by rw [← hN, Nat.mul_comm]⟩) = ∑ r, f r := by
  subst hN
  rw [← Finset.sum_product', Finset.univ_product_univ]
  exact Fintype.sum_equiv finProdFinEquiv _ _ fun i => congrArg f (Fin.ext (by simp [finProdFinEquiv, Nat.add_comm]))

/-- Taking the difference away from a real number and adding it again. -/
theorem add_back {x : EReal} (q : EReal) (hx : ∃ a : ℝ, x = a) : x + (q - x) = q := by
  obtain ⟨a, rfl⟩ := hx
  induction q with
  | bot => simp
  | top => simp
  | coe b => rw [← EReal.coe_sub, ← EReal.coe_add]; congr 1; ring

/-- The two losses agree on a real total. -/
theorem loss_eq (l : EReal) (hl : ∃ a : ℝ, l = a) :
    l * Ideal.ofBits .f32 0x34A00000#32
      = Ideal.div l (Ideal.ofBits .f32 0x4A800000#32)
        + Ideal.ofBits .f32 0x3E800000#32 * Ideal.div l (Ideal.ofBits .f32 0x4A800000#32) := by
  obtain ⟨a, rfl⟩ := hl
  rw [bits_scale, bits_size, bits_quarter, Ideal.div_coe (by norm_num)]
  simp only [← EReal.coe_mul, ← EReal.coe_add]
  congr 1
  ring

/-- The two shares agree. -/
theorem share_eq (n : EReal) :
    n * Ideal.ofBits .f32 0x38800000#32 = Ideal.div n (Ideal.ofBits .f32 0x46800000#32) := by
  rw [bits_share, bits_rows, Ideal.div_coe (by norm_num)]

/-- The two parts of an index added and read as an integer are the index. -/
theorem index_word (n : Fin 1024) :
    Ideal.fptosi 32 ((((n.val / 128 * 128 : ℕ) : ℝ) : EReal) + (((n.val % 128 : ℕ) : ℝ) : EReal)) = BitVec.ofNat 32 n.val := by
  rw [← EReal.coe_add, ← Nat.cast_add, Nat.div_add_mod']
  unfold Ideal.fptosi
  rw [Ideal.toIntClamped_coe, if_pos (Nat.cast_nonneg _), Int.floor_natCast]
  have h := n.isLt
  rw [min_eq_right (by norm_num; omega), max_eq_right (by norm_num), BitVec.ofInt_natCast]

end Cert.Proof

end
-- ==== Proof.Match.lean ====
/- The kernel's five results equal the reference's, over two argument arrays of real numbers whose rows each have one
   nearest code. -/
module

public import proofs.«01_k».proof.Proof.Entry
public import proofs.«01_k».proof.Proof.Numbers
public import proofs.«01_k».proof.Proof.RefValues

@[expose] public section

set_option maxRecDepth 16384

noncomputable section

namespace Cert.Proof

open Idealize.ShloMosaic Idealize.ShloMosaic.TcCoe Cert.KernelIdeal Cert.KernelIdeal.Gen
open Cert.ReferenceIdeal.Val (distances nearest oneHot quantized loss straight perplexity rows)

/-- The precondition's content: entries are real numbers, and `near r` is the one code at row `r`'s least distance and
    the arg-min's index. -/
structure Untied (x : FVec Ideal S16x1024x256 .f32) (e : FVec Ideal S1024x256 .f32) (near : Fin 16384 → Fin 1024) : Prop where
  real_x : ∀ b t j, ∃ a : ℝ, x (ix3 b t j) = (a : EReal)
  real_e : ∀ k j, ∃ a : ℝ, e (ix2 k j) = (a : EReal)
  word : ∀ r, nearest (distances x e) (ix1 r) = BitVec.ofNat 32 (near r).val
  one : ∀ r k, distances x e (ix2 r k) = least (fun k => distances x e (ix2 r k)) ↔ k = near r

variable (m : (ℓ : Loc nD τ sig) → Buf (Elt Ideal) ℓ) (ρ : Dev nD → PrngReg) (c : Dev nD)
variable {near : Fin 16384 → Fin 1024} (h : Untied (inX m c) (inE m c) near)

include h

/-- A row's entries are real numbers. -/
theorem real_rows (r : Fin 16384) (j : Fin 256) : ∃ a : ℝ, rows (inX m c) (ix2 r j) = (a : EReal) := by
  rw [Cert.ReferenceIdeal.Val.rows_at]; exact h.real_x _ _ _

/-- The kernel's distance is the reference's. -/
theorem kernel_distance (r : Fin 16384) (k : Fin 1024) :
    kdist (row (V2 m ρ c main_v0) r) (tab (V2 m ρ c main_v3)) (line (V2 m ρ c main_v15)) k
      = distances (inX m c) (inE m c) (ix2 r k) := by
  have hx : row (V2 m ρ c main_v0) r = fun j => rows (inX m c) (ix2 r j) :=
    funext fun j => congrFun (entry_rows m ρ c) (ix2 r j)
  have he : tab (V2 m ρ c main_v3) = fun j k => Ideal.ofBits .f32 0xC0000000#32 * inE m c (ix2 k j) :=
    funext fun j => funext fun k => entry_scaled m ρ c j k
  have hn : line (V2 m ρ c main_v15) = fun k => (∑ j, inE m c (ix2 k j) * inE m c (ix2 k j) : EReal) :=
    funext fun k => entry_norms m ρ c k
  rw [hx, he, hn, Cert.ReferenceIdeal.Val.distances_at]
  exact kdist_eq (fun j => rows (inX m c) (ix2 r j)) (fun k j => inE m c (ix2 k j)) (real_rows m c h r) h.real_e k

/-- The kernel's mark: one at the nearest code, zero elsewhere. -/
theorem marks_eq (r : Fin 16384) (k : Fin 1024) : marks (V2 m ρ) c r k = if k = near r then 1 else 0 := by
  unfold marks hot
  rw [show kdist (row (V2 m ρ c main_v0) r) (tab (V2 m ρ c main_v3)) (line (V2 m ρ c main_v15))
      = fun k => distances (inX m c) (inE m c) (ix2 r k) from funext fun k => kernel_distance m ρ c h r k]
  exact if_congr (h.one r k) rfl rfl

/-- What the kernel looks up for a row: the widened table's row of the nearest code. -/
theorem looked_eq (r : Fin 16384) (j : Fin 384) :
    looked (V2 m ρ) c r j = V2 m ρ c main_v14 (ix2 (near r) j) := by
  unfold looked mix
  have e : ∀ k, hot (row (V2 m ρ c main_v0) r) (tab (V2 m ρ c main_v3)) (line (V2 m ρ c main_v15)) k
      = if k = near r then 1 else 0 := fun k => marks_eq m ρ c h r k
  simp only [e]
  exact pick (near r) _

/-- The first 256 columns of what is looked up are the nearest code. -/
theorem looked_code (r : Fin 16384) (j : Fin 256) :
    looked (V2 m ρ) c r ⟨j.val, by omega⟩ = inE m c (ix2 (near r) j) :=
  (looked_eq m ρ c h r _).trans (entry_wide m ρ c (near r) j)

/-- The kernel's index word is the nearest code's index. -/
theorem word_eq (r : Fin 16384) : word (V2 m ρ) c r = BitVec.ofNat 32 (near r).val := by
  unfold word
  rw [looked_eq m ρ c h, looked_eq m ρ c h, entry_hi, entry_lo]
  exact index_word (near r)

/-- The reference's marks. -/
abbrev refMarks : FVec Ideal S16384x1024 .f32 := oneHot (nearest (distances (inX m c) (inE m c)))

/-- The reference's mark: one at the nearest code, zero elsewhere. -/
theorem ref_marks (r : Fin 16384) (k : Fin 1024) : refMarks m c (ix2 r k) = if k = near r then (1 : EReal) else 0 := by
  refine (Cert.ReferenceIdeal.Val.oneHot_at _ r k).trans ?_
  rw [h.word r]
  refine if_congr ⟨fun e => Fin.ext ?_, fun e => by rw [e]⟩ rfl rfl
  have e' := congrArg BitVec.toNat e
  rw [BitVec.toNat_ofNat, BitVec.toNat_ofNat, Nat.mod_eq_of_lt (by omega), Nat.mod_eq_of_lt (by omega)] at e'
  exact e'.symm

/-- What the reference looks up: the nearest code. -/
theorem ref_looked (b : Fin 16) (t : Fin 1024) (j : Fin 256) :
    quantized (refMarks m c) (inE m c) (ix3 b t j) = inE m c (ix2 (near ⟨1024 * b.val + t.val, by omega⟩) j) := by
  rw [Cert.ReferenceIdeal.Val.quantized_at]
  simp only [ref_marks m c h]
  refine (pick _ _).trans ?_
  congr 3
  exact Fin.ext (by simp [Nat.mul_comm])

/-- The marks that the kernel returns are the reference's. -/
theorem result_marks : W5 m ρ c (Proc.devRef .tc main_v16_0) = refMarks m c := by
  refine (W5_of m ρ c main_v16_0 (by decide)).trans ((W4_of_ne m ρ c main_v16_0 (by decide)).trans
    ((W3_arr m ρ c 4).trans ((arr_marks (V2 m ρ) c).trans ?_)))
  funext i
  idx_vars i
  exact (marks_eq m ρ c h _ _).trans (ref_marks m c h _ _).symm

/-- The indices that the kernel returns are the reference's. -/
theorem result_index : W5 m ρ c (Proc.devRef .tc main_v21) = nearest (distances (inX m c) (inE m c)) := by
  have e : W4 m ρ c (Proc.devRef .tc main_v16_2) = fun i : S8x1x2048.Idx => word (V2 m ρ) c (at_ (i 0) (i 2)) :=
    (W4_of_ne m ρ c main_v16_2 (by decide)).trans ((W3_arr m ρ c 6).trans (arr_index (V2 m ρ) c))
  after_results
  rw [e]
  funext i
  idx_vars i
  rw [h.word i0, ← word_eq m ρ c h i0]
  change shapeCast S16384 (fun i : S8x1x2048.Idx => word (V2 m ρ) c (at_ (i 0) (i 2))) shapeCasts_S8x1x2048_S16384 (ix1 i0) = _
  pointwise
  exact congrArg (word (V2 m ρ) c) (Fin.ext (by simp; omega))

/-- The looked-up rows that the kernel returns are the reference's. -/
theorem result_codes :
    W5 m ρ c (Proc.devRef .tc main_v19) = straight (inX m c) (quantized (refMarks m c) (inE m c)) := by
  have e : W4 m ρ c (Proc.devRef .tc main_v16_1)
      = fun i : S16384x256.Idx => looked (V2 m ρ) c (i 0) ⟨(i 1).val, by have := (i 1).isLt; simp at this; omega⟩ :=
    (W4_of_ne m ρ c main_v16_1 (by decide)).trans ((W3_arr m ρ c 5).trans (arr_quant (V2 m ρ) c))
  after_results
  rw [e]
  funext i
  idx_vars i
  unfold straight
  change shapeCast S16x1024x256 (fun i : S16384x256.Idx => looked (V2 m ρ) c (i 0) ⟨(i 1).val, by have := (i 1).isLt; simp at this; omega⟩)
    shapeCasts_S16384x256_S16x1024x256 (ix3 i0 i1 i2) = _
  generalize hq : quantized (refMarks m c) (inE m c) = q
  pointwise
  refine (looked_code m ρ c h _ i2).trans ?_
  have hn : q (ix3 i0 i1 i2) = inE m c (ix2 (near ⟨1024 * i0.val + i1.val, by omega⟩) i2) := by
    rw [← hq]
    exact ref_looked m c h i0 i1 i2
  rw [add_back _ (h.real_x i0 i1 i2), hn]
  congr 3
  exact Fin.ext (by simp [Nat.mul_comm])

/-- A row's squared differences from its nearest code. -/
def rowSquares (x : FVec Ideal S16x1024x256 .f32) (e : FVec Ideal S1024x256 .f32) (near : Fin 16384 → Fin 1024)
    (r : Fin 16384) : EReal :=
  ∑ j : Fin 256, (e (ix2 (near r) j) - rows x (ix2 r j)) * (e (ix2 (near r) j) - rows x (ix2 r j))

/-- The squared differences of all rows are a real number. -/
theorem real_total : ∃ a : ℝ, ∑ r, rowSquares (inX m c) (inE m c) near r = (a : EReal) := by
  choose a ha using real_rows m c h
  choose b hb using h.real_e
  refine ⟨∑ r, ∑ j, (b (near r) j - a r j) * (b (near r) j - a r j), ?_⟩
  unfold rowSquares
  simp only [ha, hb, ← EReal.coe_sub, ← EReal.coe_mul, coe_sum]

/-- The kernel's squared differences, block by block, are those of all rows. -/
theorem kernel_total : (∑ b, squares (V2 m ρ) c b) = ∑ r, rowSquares (inX m c) (inE m c) near r := by
  rw [← sum_blocks 8 2048 (by norm_num) (rowSquares (inX m c) (inE m c) near)]
  unfold squares
  refine Finset.sum_congr rfl fun b _ => Finset.sum_congr rfl fun a _ => Finset.sum_congr rfl fun j _ => ?_
  unfold square
  rw [looked_code m ρ c h, show row (V2 m ρ c main_v0) (at_ b a) j = rows (inX m c) (ix2 (at_ b a) j) from
    congrFun (entry_rows m ρ c) (ix2 (at_ b a) j)]

/-- The reference's squared differences are those of all rows. -/
theorem ref_total :
    (∑ b : Fin 16, ∑ t : Fin 1024, ∑ j : Fin 256,
      (quantized (refMarks m c) (inE m c) (ix3 b t j) - inX m c (ix3 b t j))
        * (quantized (refMarks m c) (inE m c) (ix3 b t j) - inX m c (ix3 b t j)) : EReal)
      = ∑ r, rowSquares (inX m c) (inE m c) near r := by
  rw [← sum_blocks 16 1024 (by norm_num) (rowSquares (inX m c) (inE m c) near)]
  refine Finset.sum_congr rfl fun b _ => Finset.sum_congr rfl fun t _ => Finset.sum_congr rfl fun j _ => ?_
  have e : rows (inX m c) (ix2 (⟨1024 * b.val + t.val, by omega⟩ : Fin 16384) j) = inX m c (ix3 b t j) := by
    rw [Cert.ReferenceIdeal.Val.rows_at]
    have e1 : (⟨(1024 * b.val + t.val) / 1024, by omega⟩ : Fin 16) = b := Fin.ext (by simp; omega)
    have e2 : (⟨(1024 * b.val + t.val) % 1024, by omega⟩ : Fin 1024) = t := Fin.ext (by simp)
    exact congrArg₂ (fun b t => inX m c (ix3 b t j)) e1 e2
  rw [ref_looked m c h, e]

/-- The loss that the kernel returns is the reference's. -/
theorem result_loss :
    W5 m ρ c (Proc.devRef .tc main_v18) = loss (inX m c) (quantized (refMarks m c) (inE m c)) := by
  have e : W4 m ρ c (Proc.devRef .tc main_v17_0) = fun _ : S1x1.Idx => lossOf (V3 m ρ c main_v16_4) :=
    (W4_arr m ρ c 2).trans (arr_loss (V3 m ρ) c)
  have e' : V3 m ρ c main_v16_4 = fun i : S8x1x128.Idx => squares (V2 m ρ) c (i 0) :=
    (W3_arr m ρ c 8).trans (arr_squares (V2 m ρ) c)
  after_results
  rw [e, e']
  funext i
  change (∑ b, squares (V2 m ρ) c b) * Ideal.ofBits .f32 0x34A00000#32 = _
  rw [Cert.ReferenceIdeal.Val.loss_at, Cert.ReferenceIdeal.Val.meanSquare_at, ref_total m c h, kernel_total m ρ c h]
  exact loss_eq _ (real_total m c h)

/-- The kernel's count of a code, block by block, is the number of rows whose nearest code it is. -/
theorem kernel_count (k : Fin 1024) : (∑ b, count (V2 m ρ) c b k) = ∑ r, refMarks m c (ix2 r k) := by
  rw [← sum_blocks 8 2048 (by norm_num) fun r => refMarks m c (ix2 r k)]
  unfold count
  exact Finset.sum_congr rfl fun b _ => Finset.sum_congr rfl fun a _ =>
    (marks_eq m ρ c h _ _).trans (ref_marks m c h _ _).symm

/-- The perplexity that the kernel returns is the reference's. -/
theorem result_perplexity : W5 m ρ c (Proc.devRef .tc main_v20) = perplexity (refMarks m c) := by
  have e : W4 m ρ c (Proc.devRef .tc main_v17_1) = fun _ : S1x1.Idx => perplexityOf (V3 m ρ c main_v16_3) :=
    (W4_arr m ρ c 3).trans (arr_perplexity (V3 m ρ) c)
  have e' : V3 m ρ c main_v16_3 = fun i : S8x1x1024.Idx => count (V2 m ρ) c (i 0) (i 2) :=
    (W3_arr m ρ c 7).trans (arr_counts (V2 m ρ) c)
  after_results
  rw [e, e']
  funext i
  change Ideal.exp (0 - ∑ k, (∑ b, count (V2 m ρ) c b k) * Ideal.ofBits .f32 0x38800000#32
    * Ideal.log ((∑ b, count (V2 m ρ) c b k) * Ideal.ofBits .f32 0x38800000#32 + Ideal.ofBits .f32 0x2EDBE6FF#32)) = _
  rw [Cert.ReferenceIdeal.Val.perplexity_at, sub_eq_add_neg, zero_add]
  simp only [kernel_count m ρ c h, share_eq]

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.PreFacts
public import proofs.«01_k».proof.Proof.KernelRun
public import proofs.«01_k».proof.Proof.RefRun
public import proofs.«01_k».proof.Proof.Untied
public import proofs.«01_k».proof.Proof.Match
public import Idealize.ShloMosaic.Adequacy
public import Idealize.ShloMosaic.Init

@[expose] public section

noncomputable section

namespace Cert.Proof

open Idealize.ShloMosaic Idealize.SL.Sem

/-- Under the precondition every row of a device's input has one nearest code. -/
theorem near_of_pre (m : (ℓ : Loc Cert.KernelIdeal.nD Cert.KernelIdeal.τ Cert.KernelIdeal.sig) → Buf (Elt Ideal) ℓ)
    (hpre : Cert.Pre_KernelIdeal_finite_and_untied m) (c : Dev Cert.KernelIdeal.nD) :
    ∃ near, Untied (inX m c) (inE m c) near := by
  obtain ⟨hx, he, hd⟩ := hpre c
  choose near hword hone using untied (inX m c) (inE m c) hd
  exact ⟨near, pre_x _ _ hx, pre_e _ _ he, hword, hone⟩

/-- The reference runs, leaves its arguments as they were, and ends with every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  θ_run_mono (Cert.ReferenceIdeal.Val.run m g) fun r h =>
    ⟨fun c => (h c).2.2.2.2.2, sem_eq_zero_of_no_sems (by decide) r.2⟩

/-- The kernel's five results are the reference's. -/
theorem results_equal : Cert.algebraic_KernelIdeal_ReferenceIdeal_pre_finite_and_untied := by
  intro m g m' g' hpre hagree
  refine ⟨fun c => Cert.ReferenceIdeal.Val.loss (inX m c) (Cert.ReferenceIdeal.Val.quantized (refMarks m c) (inE m c)),
    fun c => Cert.ReferenceIdeal.Val.straight (inX m c) (Cert.ReferenceIdeal.Val.quantized (refMarks m c) (inE m c)),
    fun c => Cert.ReferenceIdeal.Val.perplexity (refMarks m c), fun c => refMarks m c,
    fun c => Cert.ReferenceIdeal.Val.nearest (Cert.ReferenceIdeal.Val.distances (inX m c) (inE m c)), ?_, ?_⟩
  · refine θ_run_mono (Cert.KernelIdeal.Val.run m g) fun r hr c => ?_
    obtain ⟨near, h⟩ := near_of_pre m hpre c
    obtain ⟨h0, h1, h2, h3, h4, h5, h6⟩ := hr c
    exact ⟨h0.trans (result_loss m g c h), h1.trans (result_codes m g c h), h2.trans (result_perplexity m g c h),
      h3.trans (result_marks m g c h), h4.trans (result_index m g c h), h5, h6⟩
  · refine θ_run_mono (Cert.ReferenceIdeal.Val.run m' g') fun r hr c => ?_
    have ex : Cert.ReferenceIdeal.Val.argX m' c = inX m c := (hagree c).1
    have ee : Cert.ReferenceIdeal.Val.argE m' c = inE m c := (hagree c).2
    have h := hr c
    unfold Cert.ReferenceIdeal.Val.marks at h
    rw [ex, ee] at h
    exact h

/-- Everything that is claimed: the frames, the unchanged program, and the results' equality. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, fun m g _ => reference_frame m g,
    fun m g _ => reference_frame m g, trivial, results_equal⟩

end Cert.Proof

end
